-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_depth" .f32 0x3B2AAAAB#32 ((384⁻¹ : ℝ) : EReal)
  ∧ IdealRules.named_const.Statement Cert.KernelIdeal.κ "neg_log" .f32 0xC1135D8E#32 ((-(Real.log 10000) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x768 : Shape := ⟨3, ![2, 8192, 768]⟩
abbrev S768 : Shape := ⟨1, ![768]⟩
abbrev S8192x768 : Shape := ⟨2, ![8192, 768]⟩
abbrev S1x768 : Shape := ⟨2, ![1, 768]⟩
abbrev S2x512x768 : Shape := ⟨3, ![2, 512, 768]⟩
abbrev S512x768 : Shape := ⟨2, ![512, 768]⟩
abbrev S2x512 : Shape := ⟨2, ![2, 512]⟩
abbrev S2x512x1 : Shape := ⟨3, ![2, 512, 1]⟩
abbrev S1x1x768 : Shape := ⟨3, ![1, 1, 768]⟩
abbrev S512x1 : Shape := ⟨2, ![512, 1]⟩
abbrev S1x384 : Shape := ⟨2, ![1, 384]⟩
abbrev S512x384 : Shape := ⟨2, ![512, 384]⟩
abbrev S1x512x768 : Shape := ⟨3, ![1, 512, 768]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x768, .f32⟩
  | .hbm, ⟨1, _⟩ => ⟨S768, .f32⟩
  | .hbm, ⟨2, _⟩ => ⟨S768, .f32⟩
  | .hbm, ⟨3, _⟩ => ⟨S8192x768, .f32⟩
  | .hbm, ⟨4, _⟩ => ⟨S1x768, .f32⟩
  | .hbm, ⟨5, _⟩ => ⟨S1x768, .f32⟩
  | .hbm, ⟨6, _⟩ => ⟨S2x8192x768, .f32⟩
  | .local _ .vmem, ⟨0, _⟩ => ⟨S2x512x768, .f32⟩
  | .local _ .vmem, ⟨1, _⟩ => ⟨S2x512x768, .f32⟩
  | .local _ .vmem, ⟨2, _⟩ => ⟨S1x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | .local _ .vmem, ⟨6, _⟩ => ⟨S2x512x768, .f32⟩
  | .local _ .vmem, ⟨7, _⟩ => ⟨S2x512x768, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_depth" => some ((384⁻¹ : ℝ) : EReal)
  | "neg_log" => some ((-(Real.log 10000) : ℝ) : EReal)
  | _ => none
-- ==== ReferenceIdeal.lean ====
abbrev S2x8192x768 : Shape := ⟨3, ![2, 8192, 768]⟩
abbrev S768 : Shape := ⟨1, ![768]⟩
abbrev S8192x768 : Shape := ⟨2, ![8192, 768]⟩
abbrev S_ : Shape := ⟨0, ![]⟩
abbrev S2x8192 : Shape := ⟨2, ![2, 8192]⟩
abbrev S2x8192x1 : Shape := ⟨3, ![2, 8192, 1]⟩
abbrev S1x1x768 : Shape := ⟨3, ![1, 1, 768]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩
abbrev S384 : Shape := ⟨1, ![384]⟩
abbrev S1x384 : Shape := ⟨2, ![1, 384]⟩
abbrev S8192x384 : Shape := ⟨2, ![8192, 384]⟩

abbrev nBuf : Space → Nat
  | .hbm => 100
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S768, .f32⟩
  | .hbm, ⟨2, _⟩ => ⟨S768, .f32⟩
  | .hbm, ⟨3, _⟩ => ⟨S8192x768, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .i32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x768, .f32⟩
  | .hbm, ⟨18, _⟩ => ⟨S2x8192x768, .f32⟩
  | .hbm, ⟨19, _⟩ => ⟨S2x8192x768, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x768, .f32⟩
  | .hbm, ⟨35, _⟩ => ⟨S2x8192x768, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x768, .f32⟩
  | .hbm, ⟨41, _⟩ => ⟨S2x8192x768, .f32⟩
  | .hbm, ⟨42, _⟩ => ⟨S1x1x768, .f32⟩
  | .hbm, ⟨43, _⟩ => ⟨S2x8192x768, .f32⟩
  | .hbm, ⟨44, _⟩ => ⟨S2x8192x768, .f32⟩
  | .hbm, ⟨45, _⟩ => ⟨S1x1x768, .f32⟩
  | .hbm, ⟨46, _⟩ => ⟨S2x8192x768, .f32⟩
  | .hbm, ⟨47, _⟩ => ⟨S2x8192x768, .f32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S1, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S1x1, .i32⟩
  | .hbm, ⟨62, _⟩ => ⟨S8192x1, .i32⟩
  | .hbm, ⟨63, _⟩ => ⟨S8192x1, .i1⟩
  | .hbm, ⟨64, _⟩ => ⟨S8192x1, .i1⟩
  | .hbm, ⟨65, _⟩ => ⟨S_, .i1⟩
  | .hbm, ⟨66, _⟩ => ⟨S8192, .i1⟩
  | .hbm, ⟨67, _⟩ => ⟨S8192x768, .f32⟩
  | .hbm, ⟨68, _⟩ => ⟨S8192x768, .i1⟩
  | .hbm, ⟨69, _⟩ => ⟨S_, .f32⟩
  | .hbm, ⟨70, _⟩ => ⟨S8192x768, .f32⟩
  | .hbm, ⟨71, _⟩ => ⟨S8192x768, .f32⟩
  | .hbm, ⟨72, _⟩ => ⟨S1x8192x768, .f32⟩
  | .hbm, ⟨73, _⟩ => ⟨S_, .f32⟩
  | .hbm, ⟨74, _⟩ => ⟨S1x8192x768, .f32⟩
  | .hbm, ⟨75, _⟩ => ⟨S1x8192x768, .f32⟩
  | .hbm, ⟨76, _⟩ => ⟨S8192, .f32⟩
  | .hbm, ⟨77, _⟩ => ⟨S8192x1, .f32⟩
  | .hbm, ⟨78, _⟩ => ⟨S384, .f32⟩
  | .hbm, ⟨79, _⟩ => ⟨S1x384, .f32⟩
  | .hbm, ⟨80, _⟩ => ⟨S_, .f32⟩
  | .hbm, ⟨81, _⟩ => ⟨S1x384, .f32⟩
  | .hbm, ⟨82, _⟩ => ⟨S1x384, .f32⟩
  | .hbm, ⟨83, _⟩ => ⟨S_, .f32⟩
  | .hbm, ⟨84, _⟩ => ⟨S1x384, .f32⟩
  | .hbm, ⟨85, _⟩ => ⟨S1x384, .f32⟩
  | .hbm, ⟨86, _⟩ => ⟨S_, .f32⟩
  | .hbm, ⟨87, _⟩ => ⟨S1x384, .f32⟩
  | .hbm, ⟨88, _⟩ => ⟨S1x384, .f32⟩
  | .hbm, ⟨89, _⟩ => ⟨S8192x384, .f32⟩
  | .hbm, ⟨90, _⟩ => ⟨S8192x384, .f32⟩
  | .hbm, ⟨91, _⟩ => ⟨S8192x384, .f32⟩
  | .hbm, ⟨92, _⟩ => ⟨S8192x384, .f32⟩
  | .hbm, ⟨93, _⟩ => ⟨S8192x384, .f32⟩
  | .hbm, ⟨94, _⟩ => ⟨S8192x768, .f32⟩
  | .hbm, ⟨95, _⟩ => ⟨S1x8192x768, .f32⟩
  | .hbm, ⟨96, _⟩ => ⟨S2x8192x768, .f32⟩
  | .hbm, ⟨97, _⟩ => ⟨S2x8192x768, .f32⟩
  | .hbm, ⟨98, _⟩ => ⟨S2x8192x768, .f32⟩
  | .hbm, ⟨99, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v19 : Ref sig .tc := ⟨.hbm, 71, rfl⟩
abbrev main_v20 : Ref sig .tc := ⟨.hbm, 72, rfl⟩
abbrev main_cst_2 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_3 : Ref sig .tc := ⟨.hbm, 80, rfl⟩
abbrev main_v27 : Ref sig .tc := ⟨.hbm, 81, rfl⟩
abbrev main_v28 : Ref sig .tc := ⟨.hbm, 82, rfl⟩
abbrev main_cst_4 : Ref sig .tc := ⟨.hbm, 83, rfl⟩
abbrev main_v29 : Ref sig .tc := ⟨.hbm, 84, rfl⟩
abbrev main_v30 : Ref sig .tc := ⟨.hbm, 85, rfl⟩
abbrev main_cst_5 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩

abbrev nD : Nat := 1
abbrev τ : Topo := Topo.v7x

variable {F : FTy → Type} [FloatOps F]
-- ==== Proof.Numbers.lean ====
/-
  The scalar mathematics of the two programs, free of any array: what one entry of the result is (`entry`), and the
  equations between extended reals by which the kernel's spelling of it and the reference's are the same number.
-/
module

public import Idealize.ShloMosaic.PureOps.Ideal.Laws
public import Idealize.ShloMosaic.Lib.Pointwise

@[expose] public section

noncomputable section

namespace Cert.Proof

open Idealize.ShloMosaic

/-! ## The constants -/

/-- The number of columns, 768, as the programs spell it. -/
abbrev cols : EReal := Ideal.ofBits FTy.f32 0x44400000#32

/-- The small number added to the variance, the binary32 number nearest to one hundred-thousandth. -/
abbrev eps : EReal := Ideal.ofBits FTy.f32 0x3727C5AC#32

/-- The factor 20 of the embedding. -/
abbrev scale : EReal := Ideal.ofBits FTy.f32 0x41A00000#32

/-- `cols` is the real number 768. -/
theorem cols_eq : cols = ((768 : ℝ) : EReal) := by
  simp [Ideal.ofBits, Ideal.ieee, -EReal.coe_mul]; norm_num

/-- `eps` is the binary fraction `10995116 / 2 ^ 40`. -/
theorem eps_eq : eps = ((10995116 / 2 ^ 40 : ℝ) : EReal) := by
  simp [Ideal.ofBits, Ideal.ieee, -EReal.coe_mul]; norm_num

/-- `eps` is positive. -/
theorem eps_pos : 0 < eps := by
  rw [eps_eq, ← EReal.coe_zero, EReal.coe_lt_coe_iff]; norm_num

/-- The pattern of 384 denotes 384. -/
theorem half_eq : Ideal.ofBits FTy.f32 0x43C00000#32 = ((384 : ℝ) : EReal) := by
  simp [Ideal.ofBits, Ideal.ieee, -EReal.coe_mul]; norm_num

/-- The pattern of 10000 denotes 10000. -/
theorem base_eq : Ideal.ofBits FTy.f32 0x461C4000#32 = ((10000 : ℝ) : EReal) := by
  simp [Ideal.ofBits, Ideal.ieee, -EReal.coe_mul]; norm_num

/-! ## Words that hold small naturals -/

/-- A word holding a natural below `2 ^ 31`, converted to a float, is that natural. -/
theorem sitofp_ofNat (n : ℕ) (hn : n < 2 ^ 31) :
    (FloatOps.sitofp FTy.f32 (BitVec.ofNat 32 n) : Ideal FTy.f32) = ((n : ℝ) : EReal) := by
  have h : (BitVec.ofNat 32 n).toInt = n := by
    rw [BitVec.toInt_eq_toNat_of_lt] <;> rw [BitVec.toNat_ofNat, Nat.mod_eq_of_lt] <;> omega
  show (((BitVec.ofNat 32 n).toInt : ℝ) : EReal) = _
  rw [h]; norm_cast

/-- The row number the kernel computes at row `r` of block `t` is `512 t + r`. -/
theorem row_word (t r : ℕ) :
    IntOp.addi (Scalar.muli (BitVec.ofNat 32 t) 512#32) (BitVec.ofNat 32 r) = BitVec.ofNat 32 (512 * t + r) := by
  show BitVec.ofNat 32 t * BitVec.ofNat 32 512 + BitVec.ofNat 32 r = _
  rw [← BitVec.ofNat_mul, ← BitVec.ofNat_add, Nat.mul_comm]

/-! ## The layer norm of one row -/

/-- The mean of a row. -/
def mean (f : Fin 768 → EReal) : EReal := Ideal.div (∑ k, f k) cols

/-- The variance of a row: the mean square of the distances from the mean. -/
def variance (f : Fin 768 → EReal) : EReal := Ideal.div (∑ k, (f k - mean f) * (f k - mean f)) cols

/-- A row's entry less the mean, over the root of the variance plus `eps`. -/
def normalized (f : Fin 768 → EReal) (k : Fin 768) : EReal :=
  Ideal.div (f k - mean f) (Ideal.sqrt (variance f + eps))

/-- A square is not negative. -/
theorem mul_self_nonneg_ereal (x : EReal) : 0 ≤ x * x := by
  rcases le_total 0 x with h | h
  · exact mul_nonneg h h
  · have h' : 0 ≤ -x := EReal.neg_nonneg.mpr h
    rw [← neg_mul_neg]
    exact mul_nonneg h' h'

/-- A variance is not negative. -/
theorem variance_nonneg (f : Fin 768 → EReal) : 0 ≤ variance f := by
  have h : 0 ≤ ∑ k, (f k - mean f) * (f k - mean f) := Finset.sum_nonneg fun k _ => mul_self_nonneg_ereal _
  have hc : cols ≠ 0 := by rw [cols_eq]; norm_num
  unfold variance Ideal.div
  rw [if_neg hc]
  refine mul_nonneg h (EReal.inv_nonneg_of_nonneg ?_)
  rw [cols_eq]; norm_num

/-- Dividing by the root of a positive extended real is multiplying by its reciprocal root; where the number is infinite
    both are a product with zero. -/
theorem div_sqrt_of_pos (x v : EReal) (hv : 0 < v) : Ideal.div x (Ideal.sqrt v) = x * Ideal.rsqrt v := by
  induction v with
  | bot => exact absurd hv (by simp)
  | top =>
    show (if (⊤ : EReal) = 0 then _ else x * (⊤ : EReal)⁻¹) = x * 0
    rw [if_neg (by simp), EReal.inv_top]
  | coe r =>
    have hr : 0 < r := by exact_mod_cast hv
    have hs : 0 < √r := Real.sqrt_pos.mpr hr
    have hs' : ((√r : ℝ) : EReal) ≠ 0 := by exact_mod_cast hs.ne'
    show Ideal.div x (if r < 0 then ⊥ else ((√r : ℝ) : EReal)) = x * (if r < 0 then ⊥ else if r = 0 then ⊤ else _)
    rw [if_neg (not_lt.mpr hr.le), if_neg (not_lt.mpr hr.le), if_neg hr.ne', Ideal.div, if_neg hs', EReal.coe_inv]

/-- THE NORMALIZED ENTRY AS THE KERNEL SPELLS IT: a product with the reciprocal root. -/
theorem mul_rsqrt_eq_normalized (f : Fin 768 → EReal) (k : Fin 768) :
    (f k - mean f) * Ideal.rsqrt (variance f + eps) = normalized f k :=
  (div_sqrt_of_pos _ _ (lt_of_lt_of_le eps_pos (le_add_of_nonneg_left (variance_nonneg f)))).symm

/-! ## The sinusoidal encoding -/

/-- The angle of row `l` at frequency number `n`: the row number over `10000 ^ (n / 384)`. -/
def angle (l n : ℕ) : EReal :=
  ((l : ℝ) : EReal) * Ideal.div 1 (Ideal.pow ((10000 : ℝ) : EReal) (Ideal.div ((n : ℝ) : EReal) ((384 : ℝ) : EReal)))

/-- The encoding at row `l` and column `k`: the sines of the 384 angles, then their cosines. -/
def encoding (l k : ℕ) : EReal := if k < 384 then Ideal.sin (angle l k) else Ideal.cos (angle l (k - 384))

/-- A quotient of a real by a nonzero real is the real quotient. -/
theorem div_real (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- THE FREQUENCY AS THE KERNEL SPELLS IT: `exp (n · (1/384) · (- log 10000))` is the reciprocal of
    `10000 ^ (n / 384)`. -/
theorem exp_eq_inv_pow (n : ℕ) :
    Ideal.exp (((n : ℝ) : EReal) * ((384⁻¹ : ℝ) : EReal) * ((-(Real.log 10000) : ℝ) : EReal))
      = Ideal.div 1 (Ideal.pow ((10000 : ℝ) : EReal) (Ideal.div ((n : ℝ) : EReal) ((384 : ℝ) : EReal))) := by
  rw [div_real _ _ (by norm_num), Ideal.pow_coe_coe, ← EReal.coe_one]
  have hp : (0 : ℝ) < Real.rpow 10000 (n / 384) := Real.rpow_pos_of_pos (by norm_num) _
  rw [div_real _ _ hp.ne', ← EReal.coe_mul, ← EReal.coe_mul, Ideal.exp_coe]
  congr 1
  have e : Real.rpow 10000 (n / 384) = Real.exp (Real.log 10000 * (n / 384)) := Real.rpow_def_of_pos (by norm_num) _
  rw [e, one_div, ← Real.exp_neg]
  congr 1
  ring

/-! ## One entry of the result -/

/-- ONE ENTRY OF THE RESULT: of row `f`'s entry `k`, the layer norm times `g` plus `b`, plus 20 times the embedding `e`,
    plus the encoding of row number `l` at column `k`. -/
def entry (f : Fin 768 → EReal) (g b e : EReal) (l : ℕ) (k : Fin 768) : EReal :=
  normalized f k * g + b + e * scale + encoding l k

end Cert.Proof

end
-- ==== Proof.KernelBlock.lean ====
/-
  What one grid point of the idealized kernel computes: entry `(b, r, k)` of the block that point `i` stores is `entry`
  of row `(b, r)` of its input block, at row number `512 i + r`.
-/
module

public import proofs.«01_k».proof.Proof.Numbers
public import proofs.«01_k».proof.Proof.Gen.KernelIdeal.Value

@[expose] public section

noncomputable section

namespace Cert.Proof.Block

open Cert.KernelIdeal Cert.KernelIdeal.Gen Idealize.ShloMosaic

set_option maxRecDepth 16384 in
/-- The layer norm of the block: the normalized entry times the scale row plus the shift row. -/
theorem norm_apply (x : Vec Ideal S2x512x768 .f32) (g h : Vec Ideal S1x768 .f32) (b : Fin 2) (r : Fin 512) (k : Fin 768) :
    k0_pay2 (F := Ideal) x g h (ix3 b r k)
      = normalized (fun n => x (ix3 b r n)) k * g (ix2 0 k) + h (ix2 0 k) := by
  pointwise [k0_pay2]
  rw [← mul_rsqrt_eq_normalized]
  rfl

/-- The named constant `inv_depth` is the real `1/384`. -/
theorem inv_depth_eq : (Named.named κ "inv_depth" 0x3B2AAAAB#32 : Ideal FTy.f32) = ((384⁻¹ : ℝ) : EReal) := rfl

/-- The named constant `neg_log` is the real `- log 10000`. -/
theorem neg_log_eq : (Named.named κ "neg_log" 0xC1135D8E#32 : Ideal FTy.f32) = ((-(Real.log 10000) : ℝ) : EReal) := rfl

set_option maxRecDepth 16384 in
/-- The angles of the block at point `i`. -/
theorem angle_apply (i : grid0.Coords) (r : Fin 512) (n : Fin 384) :
    k0_pay3 (F := Ideal) i (ix2 r n) = angle (512 * (i 0).val + r.val) n.val := by
  have hi : (i 0).val < 16 := (i 0).isLt
  pointwise [k0_pay3]
  rw [row_word, sitofp_ofNat _ (by omega), sitofp_ofNat _ (by omega), inv_depth_eq, neg_log_eq, exp_eq_inv_pow]
  rfl

set_option maxRecDepth 16384 in
/-- The sum of the three terms. -/
theorem sum_apply (v : FVec Ideal S2x512x768 .f32) (s c : FVec Ideal S512x384 .f32) (e : Vec Ideal S512x768 .f32)
    (b : Fin 2) (r : Fin 512) (k : Fin 768) :
    k0_pay1 (F := Ideal) v s c e (ix3 b r k)
      = v (ix3 b r k) + (e (ix2 r k) * scale
          + if h : k.val < 384 then s (ix2 r ⟨k.val, h⟩) else c (ix2 r ⟨k.val - 384, by omega⟩)) := by
  pointwise [k0_pay1]

/-- ONE ENTRY OF THE BLOCK that point `i` stores. -/
theorem block_apply (i : grid0.Coords) (x : Vec Ideal S2x512x768 .f32) (g h : Vec Ideal S1x768 .f32)
    (e : Vec Ideal S512x768 .f32) (b : Fin 2) (r : Fin 512) (k : Fin 768) :
    out0_4 (F := Ideal) i x g h e (ix3 b r k)
      = entry (fun n => x (ix3 b r n)) (g (ix2 0 k)) (h (ix2 0 k)) (e (ix2 r k)) (512 * (i 0).val + r.val) k := by
  have z3 : (![0, 0, 0] : Fin 3 → Nat) = fun _ => 0 := funext fun a => by fin_cases a <;> rfl
  have z2 : (![0, 0] : Fin 2 → Nat) = fun _ => 0 := funext fun a => by fin_cases a <;> rfl
  unfold out0_4
  rw [View.canon_unit_zero z3, View.ld_unit_zero z3, View.ld_unit_zero z2, View.ld_unit_zero z2, View.ld_unit_zero z2,
    sum_apply, norm_apply, entry, add_assoc _ _ (encoding _ _)]
  refine congrArg _ (congrArg _ ?_)
  unfold encoding
  split
  · exact congrArg Ideal.sin (angle_apply i r _)
  · exact congrArg Ideal.cos (angle_apply i r _)

end Cert.Proof.Block

end
-- ==== Proof.KernelArray.lean ====
/-
  What the idealized kernel's result array holds after the run: entry `(b, l, k)` is `entry` of row `(b, l)` of the first
  argument, at row number `l`. Row `l` belongs to the block of point `l / 512`, where it is row `l % 512`.
-/
module

public import proofs.«01_k».proof.Proof.KernelBlock

@[expose] public section

noncomputable section

namespace Cert.Proof.Array

open Cert.KernelIdeal Cert.KernelIdeal.Gen Idealize.ShloMosaic Idealize.ShloMosaic.TcCoe Idealize.SL.Sem

variable (m : (ℓ : Loc nD τ sig) → Buf (Elt Ideal) ℓ)

/-- Where the windows' blocks lie: point `t` has block `t` of rows of the first argument, of the embedding and of the
    result, and the whole of the scale and of the shift; its grid coordinate is `t`. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = t.val ∧ win0_4.index t (2 : Fin 3) = 0)
    ∧ (grid0.coords t 0).val = t.val :=
  (by decide +kernel : ∀ t : Fin grid0.N, _)

/-- Row `r` of block `t`, as a row of the array. -/
def row (t : Fin cfg0.N) (r : Fin 512) : Fin 8192 :=
  ⟨512 * t.val + r.val, by have h : t.val < 16 := t.isLt; have := r.isLt; omega⟩

/-- Point `t`'s block of the first argument is its rows from `512 t` on. -/
theorem iblk0_apply (c : Dev nD) (t : Fin cfg0.N) (b : Fin 2) (r : Fin 512) (k : Fin 768) :
    (iblk m c 0 t : FVec Ideal S2x512x768 .f32) (ix3 b r k)
      = (m ((c : Thread nD τ).loc main_arg0) : FVec Ideal S2x8192x768 .f32) (ix3 b (row t r) k) := by
  obtain ⟨⟨e0, e1, e2⟩, _⟩ := idx_facts t
  show V m c main_arg0 (((cfg0.win 0).blk t).view.emb (ix3 b r k)) = _
  rw [V_main_arg0]
  refine congrArg (m ((c : Thread nD τ).loc main_arg0) : FVec Ideal S2x8192x768 .f32) (funext fun a => Fin.ext ?_)
  match a with
  | ⟨0, _⟩ => show win0_0.index t (0 : Fin 3) * 2 + 1 * b.val = b.val; omega
  | ⟨1, _⟩ => show win0_0.index t (1 : Fin 3) * 512 + 1 * r.val = 512 * t.val + r.val; omega
  | ⟨2, _⟩ => show win0_0.index t (2 : Fin 3) * 768 + 1 * k.val = k.val; omega

/-- Point `t`'s block of the embedding is its rows from `512 t` on. -/
theorem iblk3_apply (c : Dev nD) (t : Fin cfg0.N) (r : Fin 512) (k : Fin 768) :
    (iblk m c 3 t : FVec Ideal S512x768 .f32) (ix2 r k)
      = (m ((c : Thread nD τ).loc main_arg3) : FVec Ideal S8192x768 .f32) (ix2 (row t r) k) := by
  obtain ⟨_, _, _, ⟨e0, e1⟩, _⟩ := idx_facts t
  show V m c main_arg3 (((cfg0.win 3).blk t).view.emb (ix2 r k)) = _
  rw [V_main_arg3]
  refine congrArg (m ((c : Thread nD τ).loc main_arg3) : FVec Ideal S8192x768 .f32) (funext fun a => Fin.ext ?_)
  match a with
  | ⟨0, _⟩ => show win0_3.index t (0 : Fin 2) * 512 + 1 * r.val = 512 * t.val + r.val; omega
  | ⟨1, _⟩ => show win0_3.index t (1 : Fin 2) * 768 + 1 * k.val = k.val; omega

/-- The scale is viewed as one row before the launch. -/
theorem V_scale (c : Dev nD) : (V m c main_v0 : FVec Ideal S1x768 .f32)
    = shapeCast S1x768 (m ((c : Thread nD τ).loc main_arg1) : FVec Ideal S768 .f32) shapeCasts_S768_S1x768 := by
  unfold V
  simp only [hostOps0]
  after_results_simp
  all_goals rfl

/-- The shift is viewed as one row before the launch. -/
theorem V_shift (c : Dev nD) : (V m c main_v1 : FVec Ideal S1x768 .f32)
    = shapeCast S1x768 (m ((c : Thread nD τ).loc main_arg2) : FVec Ideal S768 .f32) shapeCasts_S768_S1x768 := by
  unfold V
  simp only [hostOps0]
  after_results_simp
  all_goals rfl

/-- Every point's scale block is the whole scale. -/
theorem iblk1_apply (c : Dev nD) (t : Fin cfg0.N) (k : Fin 768) :
    (iblk m c 1 t : FVec Ideal S1x768 .f32) (ix2 0 k)
      = (m ((c : Thread nD τ).loc main_arg1) : FVec Ideal S768 .f32) (ix1 k) := by
  obtain ⟨_, ⟨e0, e1⟩, _⟩ := idx_facts t
  have e : ((cfg0.win 1).blk t).view.emb (ix2 0 k) = ix2 (n0 := 1) 0 k := funext fun a => Fin.ext (by
    match a with
    | ⟨0, _⟩ => show win0_1.index t (0 : Fin 2) * 1 + 1 * 0 = 0; omega
    | ⟨1, _⟩ => show win0_1.index t (1 : Fin 2) * 768 + 1 * k.val = k.val; omega)
  show V m c main_v0 (((cfg0.win 1).blk t).view.emb (ix2 0 k)) = _
  rw [e]
  refine (congrFun (V_scale m c) (ix2 0 k)).trans ?_
  pointwise

/-- Every point's shift block is the whole shift. -/
theorem iblk2_apply (c : Dev nD) (t : Fin cfg0.N) (k : Fin 768) :
    (iblk m c 2 t : FVec Ideal S1x768 .f32) (ix2 0 k)
      = (m ((c : Thread nD τ).loc main_arg2) : FVec Ideal S768 .f32) (ix1 k) := by
  obtain ⟨_, _, ⟨e0, e1⟩, _⟩ := idx_facts t
  have e : ((cfg0.win 2).blk t).view.emb (ix2 0 k) = ix2 (n0 := 1) 0 k := funext fun a => Fin.ext (by
    match a with
    | ⟨0, _⟩ => show win0_2.index t (0 : Fin 2) * 1 + 1 * 0 = 0; omega
    | ⟨1, _⟩ => show win0_2.index t (1 : Fin 2) * 768 + 1 * k.val = k.val; omega)
  show V m c main_v1 (((cfg0.win 2).blk t).view.emb (ix2 0 k)) = _
  rw [e]
  refine (congrFun (V_shift m c) (ix2 0 k)).trans ?_
  pointwise

/-- The place in the result array of entry `(b, r, k)` of block `t`. -/
theorem emb4 (t : Fin cfg0.N) (b : Fin 2) (r : Fin 512) (k : Fin 768) :
    ((cfg0.win 4).blk t).view.emb (ix3 b r k) = ix3 b (row t r) k := by
  obtain ⟨_, _, _, _, ⟨e0, e1, e2⟩, _⟩ := idx_facts t
  funext a
  apply Fin.ext
  match a with
  | ⟨0, _⟩ => show win0_4.index t (0 : Fin 3) * 2 + 1 * b.val = b.val; omega
  | ⟨1, _⟩ => show win0_4.index t (1 : Fin 3) * 512 + 1 * r.val = 512 * t.val + r.val; omega
  | ⟨2, _⟩ => show win0_4.index t (2 : Fin 3) * 768 + 1 * k.val = k.val; omega

/-- The result array at row `r` of block `t`. -/
theorem final_row (c : Dev nD) (t : Fin cfg0.N) (b : Fin 2) (r : Fin 512) (k : Fin 768) :
    ((dats m 0 c).arrAt 4 cfg0.N : FVec Ideal S2x8192x768 .f32) (ix3 b (row t r) k)
      = entry (fun n => (m ((c : Thread nD τ).loc main_arg0) : FVec Ideal S2x8192x768 .f32) (ix3 b (row t r) n))
          ((m ((c : Thread nD τ).loc main_arg1) : FVec Ideal S768 .f32) (ix1 k))
          ((m ((c : Thread nD τ).loc main_arg2) : FVec Ideal S768 .f32) (ix1 k))
          ((m ((c : Thread nD τ).loc main_arg3) : FVec Ideal S8192x768 .f32) (ix2 (row t r) k)) (row t r).val k := by
  obtain ⟨_, _, _, _, _, e⟩ := idx_facts t
  have h := congrFun (Cert.KernelIdeal.Value.blocks4 m c t (flush0_4 t)) (ix3 b r k)
  rw [Cert.KernelIdeal.Value.flushed4] at h
  have h' : ((dats m 0 c).arrAt 4 cfg0.N : FVec Ideal S2x8192x768 .f32) (((cfg0.win 4).blk t).view.emb (ix3 b r k))
      = out0_4 (F := Ideal) (grid0.coords t) (iblk m c 0 t) (iblk m c 1 t) (iblk m c 2 t) (iblk m c 3 t) (ix3 b r k) := h
  rw [emb4, Block.block_apply, iblk1_apply, iblk2_apply, iblk3_apply, e] at h'
  refine h'.trans ?_
  rw [show (fun n => (iblk m c 0 t : FVec Ideal S2x512x768 .f32) (ix3 b r n)) = _ from funext fun n => iblk0_apply m c t b r n]
  rfl

/-- ONE ENTRY OF THE RESULT ARRAY after the run. -/
theorem final_apply (c : Dev nD) (b : Fin 2) (l : Fin 8192) (k : Fin 768) :
    ((dats m 0 c).arrAt 4 cfg0.N : FVec Ideal S2x8192x768 .f32) (ix3 b l k)
      = entry (fun n => (m ((c : Thread nD τ).loc main_arg0) : FVec Ideal S2x8192x768 .f32) (ix3 b l n))
          ((m ((c : Thread nD τ).loc main_arg1) : FVec Ideal S768 .f32) (ix1 k))
          ((m ((c : Thread nD τ).loc main_arg2) : FVec Ideal S768 .f32) (ix1 k))
          ((m ((c : Thread nD τ).loc main_arg3) : FVec Ideal S8192x768 .f32) (ix2 l k)) l.val k := by
  have hl : l.val < 8192 := l.isLt
  have ht : l.val / 512 < cfg0.N := by show l.val / 512 < 16; omega
  have e : l = row ⟨l.val / 512, ht⟩ ⟨l.val % 512, by omega⟩ := Fin.ext (by show l.val = 512 * (l.val / 512) + l.val % 512; omega)
  rw [e]
  exact final_row m c _ b _ k

end Cert.Proof.Array

end
-- ==== Proof.ReferenceValue.lean ====
/-
  What the idealized reference computes: entry `(b, l, k)` of its result is `entry` of row `(b, l)` of its first argument,
  at row number `l`.
-/
module

public import proofs.«01_k».proof.Proof.Numbers
public import proofs.«01_k».proof.Proof.Gen.ReferenceIdeal.Run
public import Idealize.ShloMosaic.Lib.Tactic.CleanTypes
public import Idealize.ShloMosaic.Lib.Routing.Ops
public import Idealize.ShloMosaic.Lib.WordCmp

@[expose] public section

noncomputable section

namespace Cert.Proof.Reference

open Cert.ReferenceIdeal Cert.ReferenceIdeal.Gen Cert.ReferenceIdeal.Value Idealize.ShloMosaic Idealize.SL.Sem

/-- The reference's row number, wrapped where negative, is the row number. -/
theorem wrap_row (l : ℕ) (hl : l < 8192) :
    Scalar.select (IntOp.cmpi CmpIPredicate.slt (BitVec.ofNat 32 l) 0#32)
      (IntOp.addi (BitVec.ofNat 32 l) 8192#32) (BitVec.ofNat 32 l) = BitVec.ofNat 32 l := by
  simp (disch := omega) only [hlo_ix]
  rw [if_neg (by omega)]

/-- The row numbers the reference looks up, one to a row. -/
def rowNumbers : IVec S8192x1 32 :=
  broadcastInDim S8192x1 ![0] bcast_S8192_S8192x1_0
    (select
      (cmpi CmpIPredicate.slt (iotaInDim S8192 32 0)
        (broadcastInDim S8192 ![] bcast_S_S8192 (constantI S_ 32 0#32)))
      (addi (iotaInDim S8192 32 0) (broadcastInDim S8192 ![] bcast_S_S8192 (constantI S_ 32 8192#32)))
      (iotaInDim S8192 32 0))

/-- The number looked up at row `l` is `l`. -/
theorem rowNumbers_apply (l : Fin 8192) : rowNumbers (ix2 l 0) = BitVec.ofNat 32 l.val := by
  unfold rowNumbers
  pointwise
  exact wrap_row _ l.isLt

/-- Every row number is inside the table. -/
theorem row_inside (l : ℕ) (hl : l < 8192) :
    IntOp.andi (IntOp.cmpi CmpIPredicate.sge (BitVec.ofNat 32 l) 0#32)
      (IntOp.cmpi CmpIPredicate.sle (BitVec.ofNat 32 l) 8191#32) = 1#1 := by
  simp (disch := omega) only [hlo_ix]
  omega

/-- The conjunction, over an axis of one position, of bits that are all set is set. -/
theorem all_set : Finset.fold IntOp.andi (1#1) (fun _ : Fin 1 => 1#1) Finset.univ = 1#1 := by decide

/-- 768 less zero is 768. -/
theorem cols_sub_zero : cols - (FloatOps.sitofp FTy.f32 0#32 : Ideal FTy.f32) = cols := by
  have h : (FloatOps.sitofp FTy.f32 0#32 : Ideal FTy.f32) = (0 : EReal) := by
    rw [show (0#32) = BitVec.ofNat 32 0 from rfl, sitofp_ofNat 0 (by norm_num)]; simp
  rw [h, sub_zero]

/-- The number of columns is positive. -/
theorem cols_pos : 0 < cols := by rw [cols_eq]; norm_num

set_option maxHeartbeats 4000000 in
set_option maxRecDepth 16384 in
/-- ONE ENTRY OF THE REFERENCE'S RESULT. -/
theorem result_apply (m : (ℓ : Loc nD τ sig) → Buf (Elt Ideal) ℓ) (c : Dev nD) (b : Fin 2) (l : Fin 8192) (k : Fin 768) :
    (res_out0 (F := Ideal) m c : FVec Ideal S2x8192x768 .f32) (ix3 b l k)
      = entry (fun n => (m (c.tc.loc main_arg0) : FVec Ideal S2x8192x768 .f32) (ix3 b l n))
          ((m (c.tc.loc main_arg1) : FVec Ideal S768 .f32) (ix1 k)) ((m (c.tc.loc main_arg2) : FVec Ideal S768 .f32) (ix1 k))
          ((m (c.tc.loc main_arg3) : FVec Ideal S8192x768 .f32) (ix2 l k)) l.val k := by
  have hl : l.val < 8192 := l.isLt
  have hk : k.val < 768 := k.isLt
  unfold res_out0 res_main_v43
  clean_types
  pointwise
  rw [wrap_row _ hl, row_inside _ hl, cols_sub_zero, if_pos cols_pos, half_eq, base_eq,
    sitofp_ofNat _ (by omega), sitofp_ofNat _ (by omega), sitofp_ofNat _ (by omega), all_set]
  have hg := Routing.gather_row gather_S8192x768_S8192x1_S8192x768_1_0_n_n_0_1_1768 rfl rfl rfl rfl rfl
    (m (c.tc.loc main_arg3) : FVec Ideal S8192x768 .f32) rowNumbers l k l (rowNumbers_apply l) (by norm_num)
  have he : (if h : k.val < 384 then Ideal.sin (angle l.val k.val) else Ideal.cos (angle l.val (k.val - 384)))
      = encoding l.val k.val := by
    unfold encoding
    split <;> rfl
  exact congrArg₂ (fun p q : EReal => normalized (fun n => (m (c.tc.loc main_arg0) : FVec Ideal S2x8192x768 .f32) (ix3 b l n)) k
      * (m (c.tc.loc main_arg1) : FVec Ideal S768 .f32) (ix1 k) + (m (c.tc.loc main_arg2) : FVec Ideal S768 .f32) (ix1 k)
      + p * scale + q) hg he

end Cert.Proof.Reference

end
-- ==== Proof.lean ====
/-
  The proof of the five claims: the frames of the kernel, of its idealization and of the reference's; that the
  idealization changed nothing but the two named constants; and that at the extended reals the kernel's result is the
  reference's, entry by entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.KernelArray
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates, faults nowhere, and leaves its arguments and every semaphore as they were. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference's, which has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants are the reals they are named for. -/
theorem preserves : Cert.preserves_Kernel_KernelIdeal :=
  ⟨IdealRules.named_const.statement Cert.KernelIdeal.κ "inv_depth" .f32 0x3B2AAAAB#32 ((384⁻¹ : ℝ) : EReal) rfl,
    IdealRules.named_const.statement Cert.KernelIdeal.κ "neg_log" .f32 0xC1135D8E#32 ((-(Real.log 10000) : ℝ) : EReal) rfl⟩

/-- From arguments that agree, the reference's result and the kernel's are one array. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3)) :
    (Cert.ReferenceIdeal.Value.res_out0 (F := Ideal) m' c : FVec Ideal Cert.ReferenceIdeal.S2x8192x768 .f32)
      = ((Cert.KernelIdeal.Gen.dats m 0 c).arrAt 4 Cert.KernelIdeal.cfg0.N : FVec Ideal Cert.KernelIdeal.S2x8192x768 .f32) := by
  funext j
  rw [eq_ix3 j]
  refine (Reference.result_apply m' c _ _ _).trans ?_
  rw [h0, h1, h2, h3]
  exact (Array.final_apply m c _ _ _).symm

/-- At the extended reals the kernel's result is the reference's. -/
theorem algebraic : Cert.algebraic_KernelIdeal_ReferenceIdeal := by
  intro m ρ m' ρ' _ hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  exact result_eq m m' c h0 h1 h2 h3

/-- The five claims together. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
